-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x8192 : Shape := ⟨3, ![128, 1, 8192]⟩
abbrev S8192x32768 : Shape := ⟨2, ![8192, 32768]⟩
abbrev S32768 : Shape := ⟨1, ![32768]⟩
abbrev S128x8192 : Shape := ⟨2, ![128, 8192]⟩
abbrev S1x32768 : Shape := ⟨2, ![1, 32768]⟩
abbrev S128x32768 : Shape := ⟨2, ![128, 32768]⟩
abbrev S8192x512 : Shape := ⟨2, ![8192, 512]⟩
abbrev S1x512 : Shape := ⟨2, ![1, 512]⟩
abbrev S128x512 : Shape := ⟨2, ![128, 512]⟩
abbrev S512x512 : Shape := ⟨2, ![512, 512]⟩
abbrev S128x1x32768 : Shape := ⟨3, ![128, 1, 32768]⟩

abbrev nBuf : Space → Nat
  | .hbm => 9
  | .vmem => 10
  | .smem => 0
  | _ => 0

abbrev bufTy : (tb : Table) → Fin (tcTables nBuf tb) → BufTy
  | .hbm, ⟨0, _⟩ => ⟨S128x1x8192, .f32⟩
  | .hbm, ⟨1, _⟩ => ⟨S8192x32768, .i8⟩
  | .hbm, ⟨2, _⟩ => ⟨S32768, .f32⟩
  | .hbm, ⟨3, _⟩ => ⟨S32768, .f32⟩
  | .hbm, ⟨4, _⟩ => ⟨S128x8192, .f32⟩
  | .hbm, ⟨5, _⟩ => ⟨S1x32768, .f32⟩
  | .hbm, ⟨6, _⟩ => ⟨S1x32768, .f32⟩
  | .hbm, ⟨7, _⟩ => ⟨S128x32768, .f32⟩
  | .hbm, ⟨8, _⟩ => ⟨S128x1x32768, .f32⟩
  | .local _ .vmem, ⟨0, _⟩ => ⟨S128x8192, .f32⟩
  | .local _ .vmem, ⟨1, _⟩ => ⟨S8192x512, .i8⟩
  | .local _ .vmem, ⟨2, _⟩ => ⟨S8192x512, .i8⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S128x512, .f32⟩
  | .local _ .vmem, ⟨8, _⟩ => ⟨S128x512, .f32⟩
  | .local _ .vmem, ⟨9, _⟩ => ⟨S128x8192, .bf16⟩
  | _, _ => ⟨S128x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S128x1x8192 : Shape := ⟨3, ![128, 1, 8192]⟩
abbrev S8192x32768 : Shape := ⟨2, ![8192, 32768]⟩
abbrev S32768 : Shape := ⟨1, ![32768]⟩
abbrev S1x32768 : Shape := ⟨2, ![1, 32768]⟩
abbrev S128x1x32768 : Shape := ⟨3, ![128, 1, 32768]⟩
abbrev S1x1x32768 : Shape := ⟨3, ![1, 1, 32768]⟩

abbrev nBuf : Space → Nat
  | .hbm => 10
  | .vmem => 3
  | .smem => 0
  | _ => 0

abbrev bufTy : (tb : Table) → Fin (tcTables nBuf tb) → BufTy
  | .hbm, ⟨0, _⟩ => ⟨S128x1x8192, .f32⟩
  | .hbm, ⟨1, _⟩ => ⟨S8192x32768, .i8⟩
  | .hbm, ⟨2, _⟩ => ⟨S32768, .f32⟩
  | .hbm, ⟨3, _⟩ => ⟨S32768, .f32⟩
  | .hbm, ⟨4, _⟩ => ⟨S8192x32768, .bf16⟩
  | .hbm, ⟨5, _⟩ => ⟨S128x1x8192, .bf16⟩
  | .hbm, ⟨6, _⟩ => ⟨S128x1x32768, .f32⟩
  | .hbm, ⟨7, _⟩ => ⟨S1x1x32768, .f32⟩
  | .hbm, ⟨8, _⟩ => ⟨S128x1x32768, .f32⟩
  | .hbm, ⟨9, _⟩ => ⟨S128x1x32768, .f32⟩
  | .local _ .vmem, ⟨0, _⟩ => ⟨S8192x32768, .i8⟩
  | .local _ .vmem, ⟨1, _⟩ => ⟨S32768, .f32⟩
  | .local _ .vmem, ⟨2, _⟩ => ⟨S8192x32768, .bf16⟩
  | _, _ => ⟨S128x1x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8192x32768 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x32768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Block.lean ====
/-
  WHAT ONE GRID POINT COMPUTES. A grid point of the kernel holds the whole activation matrix `x` (128 rows, 8192 columns),
  512 columns of the integer codes `w`, and the same 512 columns of the scales `s` and of the bias `b`. It multiplies in
  sixteen chunks of 512 rows of `w` and adds the sixteen partial products, then the bias. Read over the extended reals
  this is one sum over all 8192 positions (`block`), because a sum may be cut into chunks.
-/
module

public import proofs.«01_k».proof.Proof.Gen.KernelIdeal.Frame
public import Idealize.ShloMosaic.Lib.Pointwise
public import Idealize.ShloMosaic.Lib.Pipeline.Value
public import Idealize.ShloMosaic.Lib.Pipeline.ValueKit

@[expose] public section

noncomputable section

namespace Cert.Proof.Block

open Idealize.ShloMosaic Idealize.ShloMosaic.TcCoe Cert.KernelIdeal Cert.KernelIdeal.Gen
open scoped BigOperators

/-- The number an 8-bit code stands for. -/
abbrev code (z : BitVec 8) : EReal := ((z.toInt : ℝ) : EReal)

/-- The block of the result one grid point computes: row of `x` times dequantised column of `w`, plus the bias. -/
def block (x : Vec Ideal S128x8192 .bf16) (w : Vec Ideal S8192x512 .i8) (s b : Vec Ideal S1x512 .f32) : Vec Ideal S128x512 .f32 :=
  fun j => (∑ k : Fin 8192, (x (ix2 (j 0) k) : EReal) * (code (w (ix2 k (j 1))) * (s (ix2 0 (j 1)) : EReal))) + (b (ix2 0 (j 1)) : EReal)

/-- A sum over 8192 positions is the sum of its sixteen chunks of 512, added from the left. -/
theorem sum_chunks {M : Type*} [AddCommMonoid M] (f : Fin 8192 → M) : ∑ k : Fin 8192, f k
    = (∑ k : Fin 512, f ⟨k.val, by omega⟩) + (∑ k : Fin 512, f ⟨512 + k.val, by omega⟩)
      + (∑ k : Fin 512, f ⟨1024 + k.val, by omega⟩) + (∑ k : Fin 512, f ⟨1536 + k.val, by omega⟩)
      + (∑ k : Fin 512, f ⟨2048 + k.val, by omega⟩) + (∑ k : Fin 512, f ⟨2560 + k.val, by omega⟩)
      + (∑ k : Fin 512, f ⟨3072 + k.val, by omega⟩) + (∑ k : Fin 512, f ⟨3584 + k.val, by omega⟩)
      + (∑ k : Fin 512, f ⟨4096 + k.val, by omega⟩) + (∑ k : Fin 512, f ⟨4608 + k.val, by omega⟩)
      + (∑ k : Fin 512, f ⟨5120 + k.val, by omega⟩) + (∑ k : Fin 512, f ⟨5632 + k.val, by omega⟩)
      + (∑ k : Fin 512, f ⟨6144 + k.val, by omega⟩) + (∑ k : Fin 512, f ⟨6656 + k.val, by omega⟩)
      + (∑ k : Fin 512, f ⟨7168 + k.val, by omega⟩) + (∑ k : Fin 512, f ⟨7680 + k.val, by omega⟩) := by
  rw [Fin.sum_univ_two_halves 7680 512 rfl f, Fin.sum_univ_two_halves 7168 512 rfl, Fin.sum_univ_two_halves 6656 512 rfl,
    Fin.sum_univ_two_halves 6144 512 rfl, Fin.sum_univ_two_halves 5632 512 rfl, Fin.sum_univ_two_halves 5120 512 rfl,
    Fin.sum_univ_two_halves 4608 512 rfl, Fin.sum_univ_two_halves 4096 512 rfl, Fin.sum_univ_two_halves 3584 512 rfl,
    Fin.sum_univ_two_halves 3072 512 rfl, Fin.sum_univ_two_halves 2560 512 rfl, Fin.sum_univ_two_halves 2048 512 rfl,
    Fin.sum_univ_two_halves 1536 512 rfl, Fin.sum_univ_two_halves 1024 512 rfl, Fin.sum_univ_two_halves 512 512 rfl]

/-- The rectangle of 512 rows of the codes from row `o` on, and of 512 columns of the activations from column `o` on. -/
abbrev rowsAt (o : ℕ) (h : ∀ a, (![o, 0] : Fin 2 → ℕ) a + S512x512.size a ≤ S8192x512.size a) : Rect S8192x512 :=
  Rect.unit (s := S8192x512) ![o, 0] S512x512.size h
abbrev colsAt (o : ℕ) (h : ∀ a, (![0, o] : Fin 2 → ℕ) a + S128x512.size a ≤ S128x8192.size a) : Rect S128x8192 :=
  Rect.unit (s := S128x8192) ![0, o] S128x512.size h

set_option maxRecDepth 16384 in
/-- The stored payload of a grid point, over chunks loaded from `x` and `w`, is `block`. -/
theorem payload_eq (x : Vec Ideal S128x8192 .bf16) (w : Vec Ideal S8192x512 .i8) (s b : Vec Ideal S1x512 .f32) :
    k0_pay1 (F := Ideal) (k0_pay3 s)
      (k0_pay6 (k0_pay3 s)
        (k0_pay5 (k0_pay3 s)
          (k0_pay4 s
            (View.ld w (rowsAt 0 inb_S8192x512_S512x512_0_0)) (View.ld x (colsAt 0 inb_S128x8192_S128x512_0_0))
            (View.ld w (rowsAt 512 inb_S8192x512_S512x512_512_0)) (View.ld x (colsAt 512 inb_S128x8192_S128x512_0_512))
            (View.ld w (rowsAt 1024 inb_S8192x512_S512x512_1024_0)) (View.ld x (colsAt 1024 inb_S128x8192_S128x512_0_1024))
            (View.ld w (rowsAt 1536 inb_S8192x512_S512x512_1536_0)) (View.ld x (colsAt 1536 inb_S128x8192_S128x512_0_1536)))
          (View.ld w (rowsAt 2048 inb_S8192x512_S512x512_2048_0)) (View.ld x (colsAt 2048 inb_S128x8192_S128x512_0_2048))
          (View.ld w (rowsAt 2560 inb_S8192x512_S512x512_2560_0)) (View.ld x (colsAt 2560 inb_S128x8192_S128x512_0_2560))
          (View.ld w (rowsAt 3072 inb_S8192x512_S512x512_3072_0)) (View.ld x (colsAt 3072 inb_S128x8192_S128x512_0_3072))
          (View.ld w (rowsAt 3584 inb_S8192x512_S512x512_3584_0)) (View.ld x (colsAt 3584 inb_S128x8192_S128x512_0_3584))
          (View.ld w (rowsAt 4096 inb_S8192x512_S512x512_4096_0)) (View.ld x (colsAt 4096 inb_S128x8192_S128x512_0_4096)))
        (View.ld w (rowsAt 4608 inb_S8192x512_S512x512_4608_0)) (View.ld x (colsAt 4608 inb_S128x8192_S128x512_0_4608))
        (View.ld w (rowsAt 5120 inb_S8192x512_S512x512_5120_0)) (View.ld x (colsAt 5120 inb_S128x8192_S128x512_0_5120))
        (View.ld w (rowsAt 5632 inb_S8192x512_S512x512_5632_0)) (View.ld x (colsAt 5632 inb_S128x8192_S128x512_0_5632))
        (View.ld w (rowsAt 6144 inb_S8192x512_S512x512_6144_0)) (View.ld x (colsAt 6144 inb_S128x8192_S128x512_0_6144))
        (View.ld w (rowsAt 6656 inb_S8192x512_S512x512_6656_0)) (View.ld x (colsAt 6656 inb_S128x8192_S128x512_0_6656)))
      (View.ld w (rowsAt 7168 inb_S8192x512_S512x512_7168_0)) (View.ld x (colsAt 7168 inb_S128x8192_S128x512_0_7168))
      (View.ld w (rowsAt 7680 inb_S8192x512_S512x512_7680_0)) (View.ld x (colsAt 7680 inb_S128x8192_S128x512_0_7680))
      b = block x w s b := by
  funext j
  unfold block
  rw [sum_chunks]
  pointwise [k0_pay1, k0_pay3, k0_pay4, k0_pay5, k0_pay6]
  rfl

end Cert.Proof.Block

end
-- ==== Proof.Carried.lean ====
/-
  WHAT EVERY GRID POINT LEAVES BEHIND. The first point copies the activations into a scratch buffer (a change of float
  format, which over the extended reals changes nothing); every later point finds them there. So at each point the
  scratch holds the activations, and the block of the result is `Block.block` of the activations and of that point's
  codes, scales and bias.
-/
module

public import proofs.«01_k».proof.Proof.Block

@[expose] public section

noncomputable section

namespace Cert.Proof.Carried

open Idealize.ShloMosaic Idealize.ShloMosaic.TcCoe Cert.KernelIdeal Cert.KernelIdeal.Gen

variable (m : (ℓ : Loc nD τ sig) → Buf (Elt Ideal) ℓ)

/-- The copy into the scratch buffer keeps every value. -/
theorem copy_eq (x : Vec Ideal S128x8192 .f32) : k0_pay2 (F := Ideal) x = x := by
  funext j
  pointwise [k0_pay2]

/-- The one store covers the scratch, so a load of a part of it reads that part of what was stored. -/
theorem load_stored {κ : Kind} {sp : Space} (v : View sig κ sp S128x8192 .bf16) (p : Vec Ideal S128x8192 .bf16) (r : Rect S128x8192) :
    v.readCov (Val := Elt Ideal)
      [⟨Rect.unit ![0, 0] ![128, 8192] inb_S128x8192_S128x8192_0_0, p⟩] r.toLoadRect = View.ld p r := by
  have hz : (![0, 0] : Fin 2 → ℕ) = fun _ => 0 := funext fun a => by fin_cases a <;> rfl
  refine (View.readCov_eq_canon_ld _ _ r fun y => ⟨_, List.mem_cons_self, ?_⟩).trans
    (congrArg (View.ld · r) (View.canon_unit_zero (S := S128x8192) hz _ p))
  rw [Rect.mem_set_unit]
  intro a
  have h0 : (y 0).val < 128 := (y 0).isLt
  have h1 : (y 1).val < 8192 := (y 1).isLt
  match a with
  | ⟨0, _⟩ => exact ⟨Nat.zero_le _, by simpa using h0⟩
  | ⟨1, _⟩ => exact ⟨Nat.zero_le _, by simpa using h1⟩

set_option maxRecDepth 16384 in
/-- At a later point the scratch holds what it held. -/
theorem scratch_later (c : Dev nD) (t : Fin cfg0.N) (h : ¬t.val % 64 = 0) :
    (outsAt0 m c t.val t.isLt).2 = (outsAt0 m c (t.val - 1) (Nat.lt_of_le_of_lt (Nat.sub_le _ _) t.isLt)).2 := by
  rw [outsAt0_B m c t h]
  rfl

set_option maxRecDepth 16384 in
/-- At the first point the scratch takes the activations. -/
theorem scratch_first (c : Dev nD) (t : Fin cfg0.N) (h : t.val % 64 = 0) :
    (outsAt0 m c t.val t.isLt).2 = (iblk m c 0 t : Vec Ideal S128x8192 .f32) := by
  rw [outsAt0_A m c t h]
  dsimp only
  frame_out
  exact copy_eq _

set_option maxRecDepth 16384 in
/-- The block of the result at the first point. -/
theorem out_first (c : Dev nD) (t : Fin cfg0.N) (h : t.val % 64 = 0) :
    (outsAt0 m c t.val t.isLt).1 = Block.block (iblk m c 0 t : Vec Ideal S128x8192 .f32) (iblk m c 1 t) (iblk m c 2 t) (iblk m c 3 t) := by
  rw [outsAt0_A m c t h]
  dsimp only
  frame_out
  simp only [load_stored]
  rw [show k0_pay2 (F := Ideal) (iblk m c 0 t) = iblk m c 0 t from copy_eq _]
  exact Block.payload_eq (iblk m c 0 t : Vec Ideal S128x8192 .f32) (iblk m c 1 t) (iblk m c 2 t) (iblk m c 3 t)

set_option maxRecDepth 16384 in
/-- The block of the result at a later point, over what the scratch held. -/
theorem out_later (c : Dev nD) (t : Fin cfg0.N) (h : ¬t.val % 64 = 0) :
    (outsAt0 m c t.val t.isLt).1 = Block.block (outsAt0 m c (t.val - 1) (Nat.lt_of_le_of_lt (Nat.sub_le _ _) t.isLt)).2
      (iblk m c 1 t) (iblk m c 2 t) (iblk m c 3 t) := by
  rw [outsAt0_B m c t h]
  dsimp only
  frame_out
  have e := (Memref.isWhole_whole cc0_scratch0 : scM0_0.IsWhole).read_unread (Val := Elt Ideal)
    (outsAt0 m c (t.val - 1) (Nat.lt_of_le_of_lt (Nat.sub_le _ _) t.isLt)).2
  dsimp only [scM0_0] at e
  rw [e]
  exact Block.payload_eq _ _ _ _

/-- The activations are one block: every point reads the whole array. -/
theorem acts_eq (c : Dev nD) (t : Fin cfg0.N) : (iblk m c 0 t : Vec Ideal S128x8192 .f32) = V m c main_v0 := by
  have hi : ∀ t : Fin grid0.N, (fun a => win0_0.index t a * main_v0.ty.shape.size a) = fun _ => 0 := by
    intro t; funext a; match a with | ⟨0, _⟩ => exact Nat.zero_mul _ | ⟨1, _⟩ => exact Nat.zero_mul _
  exact Memref.read_access_unit_zero (Elt Ideal) main_v0 (hi t) (fun a => by rw [congrFun (hi t) a]; simp) (V m c main_v0)

/-- After every point the scratch holds the activations. -/
theorem scratch_eq (c : Dev nD) : ∀ (n : ℕ) (h : n < cfg0.N), (outsAt0 m c n h).2 = (V m c main_v0 : Vec Ideal S128x8192 .f32)
  | 0, h => (scratch_first m c ⟨0, h⟩ rfl).trans (acts_eq m c _)
  | n + 1, h => by
    have hN : cfg0.N = 64 := N_0
    exact (scratch_later m c ⟨n + 1, h⟩ (by dsimp only; omega)).trans (scratch_eq c n _)

/-- So every point's block of the result is `Block.block` of the activations and of the point's own blocks. -/
theorem out_eq (c : Dev nD) (t : Fin cfg0.N) : (outsAt0 m c t.val t.isLt).1
    = Block.block (V m c main_v0 : Vec Ideal S128x8192 .f32) (iblk m c 1 t) (iblk m c 2 t) (iblk m c 3 t) := by
  by_cases h : t.val % 64 = 0
  · rw [out_first m c t h, acts_eq]
  · rw [out_later m c t h, scratch_eq]

end Cert.Proof.Carried

end
-- ==== Proof.Result.lean ====
/-
  WHAT THE KERNEL'S RESULT ARRAY HOLDS. Grid point `t` (of 64) works on columns `512·t … 512·t + 511` of the codes, the
  scales and the bias and writes the same columns of the result, so the 64 blocks make up the whole array: at every row
  and column, the row of the activations times the dequantised column, plus the bias.
-/
module

public import proofs.«01_k».proof.Proof.Carried

@[expose] public section

noncomputable section

namespace Cert.Proof.Result

open Idealize.ShloMosaic Idealize.ShloMosaic.TcCoe Idealize.SL.Sem Cert.KernelIdeal Cert.KernelIdeal.Gen
open scoped BigOperators

/-- Row `r`, column `o` of the result: the sum over the 8192 inner positions of activation times (code times scale),
    plus the bias of the column. Every argument is as the caller hands it over. -/
def value (x : Vec Ideal S128x1x8192 .f32) (w : Vec Ideal S8192x32768 .i8) (s b : Vec Ideal S32768 .f32) (r : Fin 128) (o : Fin 32768) : EReal :=
  (∑ k : Fin 8192, (x (ix3 r 0 k) : EReal) * (Block.code (w (ix2 k o)) * (s (ix1 o) : EReal))) + (b (ix1 o) : EReal)

variable (m : (ℓ : Loc nD τ sig) → Buf (Elt Ideal) ℓ) (ρ : Dev nD → PrngReg)

/-- The launched arguments of device `c`. -/
abbrev acts (c : Dev nD) : Vec Ideal S128x1x8192 .f32 := m ((c : Thread nD τ).loc main_arg0)
abbrev codes (c : Dev nD) : Vec Ideal S8192x32768 .i8 := m ((c : Thread nD τ).loc main_arg1)
abbrev scales (c : Dev nD) : Vec Ideal S32768 .f32 := m ((c : Thread nD τ).loc main_arg2)
abbrev bias (c : Dev nD) : Vec Ideal S32768 .f32 := m ((c : Thread nD τ).loc main_arg3)

/-! ## What the kernel's operands hold: reshapes of the arguments -/

theorem acts_at (c : Dev nD) (r : Fin 128) (k : Fin 8192) : (V m c main_v0 : Vec Ideal S128x8192 .f32) (ix2 r k) = acts m c (ix3 r 0 k) := by
  have e : (V m c main_v0 : Vec Ideal S128x8192 .f32) = shapeCast S128x8192 (acts m c) shapeCasts_S128x1x8192_S128x8192 := by
    unfold V V0 hostOps0
    simp only [List.flatten_cons, List.flatten_nil, List.append_nil]
    after_results
    rfl
  rw [e]
  pointwise

theorem scales_at (c : Dev nD) (o : Fin 32768) : (V m c main_v1 : Vec Ideal S1x32768 .f32) (ix2 0 o) = scales m c (ix1 o) := by
  have e : (V m c main_v1 : Vec Ideal S1x32768 .f32) = shapeCast S1x32768 (scales m c) shapeCasts_S32768_S1x32768 := by
    unfold V V0 hostOps0
    simp only [List.flatten_cons, List.flatten_nil, List.append_nil]
    after_results
    rfl
  rw [e]
  pointwise

theorem bias_at (c : Dev nD) (o : Fin 32768) : (V m c main_v2 : Vec Ideal S1x32768 .f32) (ix2 0 o) = bias m c (ix1 o) := by
  have e : (V m c main_v2 : Vec Ideal S1x32768 .f32) = shapeCast S1x32768 (bias m c) shapeCasts_S32768_S1x32768 := by
    unfold V V0 hostOps0
    simp only [List.flatten_cons, List.flatten_nil, List.append_nil]
    after_results
    rfl
  rw [e]
  pointwise

/-! ## The blocks of point `t` -/

/-- Column `l` of point `t`'s block is column `512·t + l` of the array. -/
abbrev col (t : Fin cfg0.N) (l : Fin 512) : Fin 32768 := ⟨t.val * 512 + l.val, by have : t.val < 64 := lt_of_lt_of_eq t.isLt N_0; omega⟩

/-- The block index of each window that moves is `(0, t)`. -/
theorem index_eq : ∀ t : Fin grid0.N, (win0_1.index t 0 = 0 ∧ win0_1.index t 1 = t.val) ∧ (win0_2.index t 0 = 0 ∧ win0_2.index t 1 = t.val)
    ∧ (win0_3.index t 0 = 0 ∧ win0_3.index t 1 = t.val) ∧ (win0_4.index t 0 = 0 ∧ win0_4.index t 1 = t.val) := by
  decide +kernel

theorem codes_block (c : Dev nD) (t : Fin cfg0.N) (k : Fin 8192) (l : Fin 512) :
    (iblk m c 1 t : Vec Ideal S8192x512 .i8) (ix2 k l) = codes m c (ix2 k (col t l)) := by
  obtain ⟨⟨h0, h1⟩, -⟩ := index_eq t
  unfold iblk
  rw [View.read_apply]
  show V m c main_arg1 _ = _
  rw [V_main_arg1]
  refine congrArg (codes m c) (funext fun a => Fin.ext ?_)
  match a with
  | ⟨0, _⟩ => show win0_1.index t 0 * 8192 + 1 * k.val = k.val; rw [h0]; omega
  | ⟨1, _⟩ => show win0_1.index t 1 * 512 + 1 * l.val = t.val * 512 + l.val; rw [h1]; omega

theorem scales_block (c : Dev nD) (t : Fin cfg0.N) (l : Fin 512) :
    (iblk m c 2 t : Vec Ideal S1x512 .f32) (ix2 0 l) = scales m c (ix1 (col t l)) := by
  obtain ⟨-, ⟨h0, h1⟩, -⟩ := index_eq t
  rw [← scales_at]
  unfold iblk
  rw [View.read_apply]
  show V m c main_v1 _ = _
  refine congrArg (V m c main_v1 : Vec Ideal S1x32768 .f32) (funext fun a => Fin.ext ?_)
  match a with
  | ⟨0, _⟩ => show win0_2.index t 0 * 1 + 1 * 0 = 0; rw [h0]
  | ⟨1, _⟩ => show win0_2.index t 1 * 512 + 1 * l.val = t.val * 512 + l.val; rw [h1]; omega

theorem bias_block (c : Dev nD) (t : Fin cfg0.N) (l : Fin 512) :
    (iblk m c 3 t : Vec Ideal S1x512 .f32) (ix2 0 l) = bias m c (ix1 (col t l)) := by
  obtain ⟨-, -, ⟨h0, h1⟩, -⟩ := index_eq t
  rw [← bias_at]
  unfold iblk
  rw [View.read_apply]
  show V m c main_v2 _ = _
  refine congrArg (V m c main_v2 : Vec Ideal S1x32768 .f32) (funext fun a => Fin.ext ?_)
  match a with
  | ⟨0, _⟩ => show win0_3.index t 0 * 1 + 1 * 0 = 0; rw [h0]
  | ⟨1, _⟩ => show win0_3.index t 1 * 512 + 1 * l.val = t.val * 512 + l.val; rw [h1]; omega

/-- `Block.block` of blocks that hold the arguments' column `o` at their column `l` is `value` of the arguments there. -/
theorem block_at (x : Vec Ideal S128x8192 .bf16) (w : Vec Ideal S8192x512 .i8) (s b : Vec Ideal S1x512 .f32)
    (X : Vec Ideal S128x1x8192 .f32) (W : Vec Ideal S8192x32768 .i8) (S B : Vec Ideal S32768 .f32) (r : Fin 128) (l : Fin 512) (o : Fin 32768)
    (hx : ∀ k, (x (ix2 r k) : EReal) = X (ix3 r 0 k)) (hw : ∀ k, w (ix2 k l) = W (ix2 k o))
    (hs : (s (ix2 0 l) : EReal) = S (ix1 o)) (hb : (b (ix2 0 l) : EReal) = B (ix1 o)) :
    (Block.block x w s b (ix2 r l) : EReal) = value X W S B r o := by
  show (∑ k : Fin 8192, (x (ix2 r k) : EReal) * (Block.code (w (ix2 k l)) * (s (ix2 0 l) : EReal))) + (b (ix2 0 l) : EReal) = _
  rw [hs, hb]
  unfold value
  exact congrArg (fun e : EReal => e + B (ix1 o)) (Finset.sum_congr rfl fun k _ => by rw [hx, hw])

/-- What point `t` computes at row `r`, column `l` of its block. -/
theorem out_at (c : Dev nD) (t : Fin cfg0.N) (r : Fin 128) (l : Fin 512) : ((outsAt0 m c t.val t.isLt).1 : Vec Ideal S128x512 .f32) (ix2 r l)
    = value (acts m c) (codes m c) (scales m c) (bias m c) r (col t l) :=
  (congrFun (Carried.out_eq m c t) (ix2 r l)).trans
    (block_at _ _ _ _ _ _ _ _ r l (col t l) (fun k => acts_at m c r k) (fun k => codes_block m c t k l) (scales_block m c t l) (bias_block m c t l))

/-! ## The whole array -/

/-- The result array, 128 rows of 32768 columns. -/
def result (c : Dev nD) : Vec Ideal S128x32768 .f32 := fun i => value (acts m c) (codes m c) (scales m c) (bias m c) (i 0) (i 1)

/-- A block of values at point `t`'s columns is point `t`'s block of `result`. -/
theorem cut_eq (c : Dev nD) (t : Fin cfg0.N) (Y : Vec Ideal S128x512 .f32)
    (hY : ∀ r l, (Y (ix2 r l) : EReal) = value (acts m c) (codes m c) (scales m c) (bias m c) r (col t l)) :
    (cfg0.win 4).cut (grid0.coords t) Y = ((cfg0.win 4).blk t).view.read (Elt Ideal) (result m c) := by
  obtain ⟨-, -, -, h0, h1⟩ := index_eq t
  funext y
  have hy0 : (y 0).val < 128 := (y 0).isLt
  have hy1 : (y 1).val < 512 := (y 1).isLt
  have hl : (cfg0.win 4).xinj (grid0.coords t) y = (ix2 (⟨(y 0).val, hy0⟩ : Fin 128) (⟨(y 1).val, hy1⟩ : Fin 512) : S128x512.Idx) := by
    funext a; apply Fin.ext
    match a with
    | ⟨0, _⟩ => rfl
    | ⟨1, _⟩ => rfl
  have hb0 : (((cfg0.win 4).blk t).view.emb y 0).val = win0_4.index t (0 : Fin 2) * 128 + 1 * (y 0).val := rfl
  have hb1 : (((cfg0.win 4).blk t).view.emb y 1).val = win0_4.index t (1 : Fin 2) * 512 + 1 * (y 1).val := rfl
  have e0 : (((cfg0.win 4).blk t).view.emb y 0) = (⟨(y 0).val, hy0⟩ : Fin 128) := Fin.ext (by rw [hb0, h0]; dsimp only; omega)
  have e1 : (((cfg0.win 4).blk t).view.emb y 1) = col t ⟨(y 1).val, hy1⟩ := Fin.ext (by rw [hb1, h1]; dsimp only; omega)
  show Y ((cfg0.win 4).xinj (grid0.coords t) y) = value (acts m c) (codes m c) (scales m c) (bias m c) (((cfg0.win 4).blk t).view.emb y 0) (((cfg0.win 4).blk t).view.emb y 1)
  rw [hl, hY, e0, e1]

/-- What point `t` writes back is its block of `result`. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  exact cut_eq m c t _ fun r l => out_at m c t r l

/-- An index of the array is in point `t`'s block iff each coordinate is in the block's range on its axis. -/
theorem mem_blk (t : Fin cfg0.N) (i : S128x32768.Idx) :
    i ∈ ((cfg0.win 4).blk t).view.set ↔ ∀ a : Fin 2, win0_4.index t a * S128x512.size a ≤ (i a).val ∧ (i a).val < win0_4.index t a * S128x512.size a + S128x512.size a := by
  show i ∈ ((View.whole main_v3).slice (win0_4.rect t)).set ↔ _
  rw [View.set_slice_whole, Rect.mem_set_unit]
  exact Iff.rfl

theorem flush_all : ∀ t : Fin grid0.N, win0_4.flush t = true := by decide +kernel

/-- The region leaves `result` in its output array: column `o` is written by point `o / 512`. -/
theorem final_eq (c : Dev nD) : (dats m 0 c).arrAt 4 cfg0.N = result m c :=
  (dats m 0 c).arrAt_eq_of_cover 4 (result m c) (fun t _ => flushed_eq m c t) fun i => by
    have hi0 : (i 0).val < 128 := (i 0).isLt
    have hi1 : (i 1).val < 32768 := (i 1).isLt
    have hN : grid0.N = 64 := N_0
    obtain ⟨t, ht⟩ : ∃ t : Fin grid0.N, t.val = (i 1).val / 512 := ⟨⟨(i 1).val / 512, by omega⟩, rfl⟩
    obtain ⟨-, -, -, h0, h1⟩ := index_eq t
    refine ⟨t, flush_all t, ?_⟩
    rw [mem_blk]
    intro a
    match a with
    | ⟨0, _⟩ => show win0_4.index t 0 * 128 ≤ (i 0).val ∧ (i 0).val < win0_4.index t 0 * 128 + 128; rw [h0]; omega
    | ⟨1, _⟩ => show win0_4.index t 1 * 512 ≤ (i 1).val ∧ (i 1).val < win0_4.index t 1 * 512 + 512; rw [h1, ht]; omega

/-- The program's result: the array with the sequence axis (of length one) put back. -/
def out (c : Dev nD) : Vec Ideal S128x1x32768 .f32 := fun i => value (acts m c) (codes m c) (scales m c) (bias m c) (i 0) (i 2)

theorem out_reshape (c : Dev nD) : shapeCast S128x1x32768 (result m c) shapeCasts_S128x32768_S128x1x32768 = out m c := by
  funext i
  pointwise
  rfl

/-- The kernel runs, its result is `out`, its arguments are unchanged. -/
theorem run : θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  run_from (run_main m ρ)
  · unfold Pipeline.afterTail₀ hostOps1
    simp only [List.flatten_cons, List.flatten_nil, List.append_nil]
    after_results
    have e : Pipeline.withArrays (cfgs 0).spec c (V0 m c) (fun w => (dats m 0 c).arrAt w (cfgs 0).N) (Proc.devRef .tc main_v3)
        = (dats m 0 c).arrAt 4 cfg0.N := Pipeline.withArrays_arr spec0 (by decide) c _ _ 4
    rw [e, final_eq]
    exact out_reshape m c
  · exact W_main_arg0 m (dats m) c
  · exact W_main_arg2 m (dats m) c
  · exact W_main_arg3 m (dats m) c

end Cert.Proof.Result

end
-- ==== Proof.Reference.lean ====
/-
  WHAT THE REFERENCE COMPUTES. Its one region dequantises the whole weight matrix (code times the scale of the column);
  the host line after it multiplies the activations by that matrix and adds the bias.
-/
module

public import proofs.«01_k».proof.Proof.Gen.ReferenceIdeal.Frame
public import Idealize.ShloMosaic.Lib.Pointwise
public import Idealize.ShloMosaic.Lib.Claim
public import Idealize.ShloMosaic.Lib.Pipeline.Value
public import Idealize.ShloMosaic.Lib.Pipeline.ValueKit

@[expose] public section

set_option maxRecDepth 16384

noncomputable section

namespace Cert.Proof.Reference

open Idealize.ShloMosaic Idealize.ShloMosaic.TcCoe Idealize.SL.Sem Cert.ReferenceIdeal Cert.ReferenceIdeal.Gen
open scoped BigOperators

variable (m : (ℓ : Loc nD τ sig) → Buf (Elt Ideal) ℓ) (ρ : Dev nD → PrngReg)

/-- The launched arguments of device `c`. -/
abbrev acts (c : Dev nD) : Vec Ideal S128x1x8192 .f32 := m ((c : Thread nD τ).loc main_arg0)
abbrev codes (c : Dev nD) : Vec Ideal S8192x32768 .i8 := m ((c : Thread nD τ).loc main_arg1)
abbrev scales (c : Dev nD) : Vec Ideal S32768 .f32 := m ((c : Thread nD τ).loc main_arg2)
abbrev bias (c : Dev nD) : Vec Ideal S32768 .f32 := m ((c : Thread nD τ).loc main_arg3)

/-- The dequantised matrix: each code times the scale of its column. -/
def weights (w : Vec Ideal S8192x32768 .i8) (s : Vec Ideal S32768 .f32) : Vec Ideal S8192x32768 .bf16 :=
  fun i => (((w i).toInt : ℝ) : EReal) * (s (ix1 (i 1)) : EReal)

/-- What the region's body stores. -/
theorem stored_eq (w : Vec Ideal S8192x32768 .i8) (s : Vec Ideal S32768 .f32) : k0_pay1 w s = weights w s := by
  funext i
  pointwise [k0_pay1]
  rfl

/-- The result from the arguments: row of the activations times dequantised column, plus the bias of the column. -/
def out (x : Vec Ideal S128x1x8192 .f32) (w : Vec Ideal S8192x32768 .i8) (s b : Vec Ideal S32768 .f32) : Vec Ideal S128x1x32768 .f32 :=
  fun i => (∑ k : Fin 8192, (x (ix3 (i 0) 0 k) : EReal) * weights w s (ix2 k (i 2))) + (b (ix1 (i 2)) : EReal)

/-- Every window's block index is zero: the region has one point and its windows are the whole arrays. -/
theorem index_eq : ∀ t : Fin grid0.N, (win0_0.index t 0 = 0 ∧ win0_0.index t 1 = 0) ∧ win0_1.index t 0 = 0 ∧ (win0_2.index t 0 = 0 ∧ win0_2.index t 1 = 0) := by
  decide +kernel

theorem codes_block (c : Dev nD) (t : Fin cfg0.N) : iblk m c 0 t = codes m c := by
  obtain ⟨⟨h0, h1⟩, -⟩ := index_eq t
  funext j
  unfold iblk
  rw [View.read_apply]
  show codes m c _ = codes m c _
  refine congrArg (codes m c) (funext fun a => Fin.ext ?_)
  match a with
  | ⟨0, _⟩ => show win0_0.index t 0 * 8192 + 1 * (j 0).val = (j 0).val; rw [h0]; omega
  | ⟨1, _⟩ => show win0_0.index t 1 * 32768 + 1 * (j 1).val = (j 1).val; rw [h1]; omega

theorem scales_block (c : Dev nD) (t : Fin cfg0.N) : iblk m c 1 t = scales m c := by
  obtain ⟨-, h0, -⟩ := index_eq t
  funext j
  unfold iblk
  rw [View.read_apply]
  show scales m c _ = scales m c _
  refine congrArg (scales m c) (funext fun a => Fin.ext ?_)
  match a with
  | ⟨0, _⟩ => show win0_1.index t 0 * 32768 + 1 * (j 0).val = (j 0).val; rw [h0]; omega

/-- Loading whole blocks and storing one whole block: the output block is what the body stores. -/
theorem out_block (w : Vec Ideal S8192x32768 .i8) (s : Vec Ideal S32768 .f32) : out0_2 w s = weights w s := by
  have ew : View.ld w r0_0 = w := View.ld_unit_zero (by decide) (by decide) _
  have es : View.ld s r0_1 = s := View.ld_unit_zero (by decide) (by decide) _
  unfold out0_2
  rw [View.canon_unit_zero (by decide), ew, es, stored_eq]

theorem flushed_eq (c : Dev nD) (t : Fin cfg0.N) :
    (dats m 0 c).flushed 2 t = ((cfg0.win 2).blk t).view.read (Elt Ideal) (weights (codes m c) (scales m c)) := by
  show (cfg0.win 2).cut (grid0.coords t) ((dats m 0 c).after 2 t) = _
  rw [after0_2, codes_block, scales_block, out_block]
  generalize weights (codes m c) (scales m c) = X
  obtain ⟨-, -, h0, h1⟩ := index_eq t
  funext j
  show X ((cfg0.win 2).xinj (grid0.coords t) j) = X (((cfg0.win 2).blk t).view.emb j)
  refine congrArg X (funext fun a => Fin.ext ?_)
  match a with
  | ⟨0, _⟩ => show (j 0).val = win0_2.index t 0 * 8192 + 1 * (j 0).val; rw [h0]; omega
  | ⟨1, _⟩ => show (j 1).val = win0_2.index t 1 * 32768 + 1 * (j 1).val; rw [h1]; omega

theorem mem_blk (t : Fin cfg0.N) (i : S8192x32768.Idx) :
    i ∈ ((cfg0.win 2).blk t).view.set ↔ ∀ a : Fin 2, win0_2.index t a * S8192x32768.size a ≤ (i a).val ∧ (i a).val < win0_2.index t a * S8192x32768.size a + S8192x32768.size a := by
  show i ∈ ((View.whole main_v0).slice (win0_2.rect t)).set ↔ _
  rw [View.set_slice_whole, Rect.mem_set_unit]
  exact Iff.rfl

theorem flush_all : ∀ t : Fin grid0.N, win0_2.flush t = true := by decide +kernel

/-- The region leaves `weights` in its output array. -/
theorem final_eq (c : Dev nD) : (dats m 0 c).arrAt 2 cfg0.N = weights (codes m c) (scales m c) :=
  (dats m 0 c).arrAt_eq_of_cover 2 (weights (codes m c) (scales m c)) (fun t _ => flushed_eq m c t) fun i => by
    have hi0 : (i 0).val < 8192 := (i 0).isLt
    have hi1 : (i 1).val < 32768 := (i 1).isLt
    obtain ⟨-, -, h0, h1⟩ := index_eq t0_0
    refine ⟨t0_0, flush_all t0_0, ?_⟩
    rw [mem_blk]
    intro a
    match a with
    | ⟨0, _⟩ => show win0_2.index t0_0 0 * 8192 ≤ (i 0).val ∧ (i 0).val < win0_2.index t0_0 0 * 8192 + 8192; rw [h0]; omega
    | ⟨1, _⟩ => show win0_2.index t0_0 1 * 32768 ≤ (i 1).val ∧ (i 1).val < win0_2.index t0_0 1 * 32768 + 32768; rw [h1]; omega

/-- The host line after the region, on whatever matrix the region left. -/
theorem tail_eq (V : Valuation τ sig (Elt Ideal)) (x : Vec Ideal S128x1x8192 .f32) (w : Vec Ideal S8192x32768 .i8) (s b : Vec Ideal S32768 .f32)
    (hx : V (Proc.devRef .tc main_arg0) = x) (hw : V (Proc.devRef .tc main_v0) = weights w s) (hb : V (Proc.devRef .tc main_arg3) = b) :
    StableHlo.after hostOps1 V (Proc.devRef .tc main_v5) = out x w s b := by
  unfold hostOps1
  after_results
  rw [hx, hw, hb]
  funext i
  pointwise
  have h1 : i 1 = (0 : Fin 1) := Fin.ext (Nat.lt_one_iff.mp (i 1).isLt)
  rw [h1]
  rfl

/-- The reference runs, its result is `out`, its arguments are unchanged. -/
theorem run : θ_run defs (onTc (τ := τ) (main (F := Ideal))) ⟨m, fun _ => 0, ρ⟩ fun r => ∀ c : Dev nD,
      r.2.mem ((c : Thread nD τ).loc main_v5) = out (acts m c) (codes m c) (scales m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  run_from (run_main m ρ)
  · unfold Pipeline.afterTail₀
    simp only [List.flatten_cons, List.flatten_nil, List.append_nil]
    exact tail_eq _ _ _ _ _
      ((Pipeline.withArrays_of_ne spec0 c _ _ main_arg0 (by decide)).trans (V_main_arg0 m c))
      ((Pipeline.withArrays_arr spec0 (by decide) c _ _ 2).trans (final_eq m c))
      ((Pipeline.withArrays_of_ne spec0 c _ _ main_arg3 (by decide)).trans (V_main_arg3 m c))
  · exact W_main_arg0 m (dats m) c
  · exact W_main_arg3 m (dats m) c

end Cert.Proof.Reference

end
-- ==== Proof.Equation.lean ====
/-
  THE EQUATION. On equal arguments the kernel's result and the reference's are the same sum: both add, over the 8192 inner
  positions in one sum, activation times (code times scale), and then the bias. No law of the real numbers is left to use
  here; that the kernel's sum is cut in chunks was settled in Block.lean.
-/
module

public import proofs.«01_k».proof.Proof.Result
public import proofs.«01_k».proof.Proof.Reference

@[expose] public section

noncomputable section

namespace Cert.Proof.Equation

open Idealize.ShloMosaic Cert.KernelIdeal

/-- The two results are equal, index by index. -/
theorem out_eq (m : (ℓ : Loc nD τ sig) → Buf (Elt Ideal) ℓ) (c : Dev nD) :
    (Reference.out (Result.acts m c) (Result.codes m c) (Result.scales m c) (Result.bias m c) : Vec Ideal S128x1x32768 .f32) = Result.out m c := rfl

end Cert.Proof.Equation

end
-- ==== Proof.lean ====
/-
  THE CERTIFICATE, assembled. Three frames: each program runs, leaves its arguments unchanged and every semaphore at zero.
  One step of idealisation, which keeps the kernel as printed. And the value: on equal arguments the kernel's result
  (Proof/Result.lean) is the reference's (Proof/Reference.lean), by the equation of Proof/Equation.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The value claim: one array per device is the result of both programs. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Result.out m c, Result.run m g, ?_⟩
  refine (θ_run Cert.ReferenceIdeal.defs _ _).mono (fun r h c => ⟨(h c).1.trans ?_, (h c).2⟩) (Reference.run m' g')
  obtain ⟨h0, h1, h2, h3⟩ := hagree c
  refine Eq.trans ?_ (Equation.out_eq m c)
  show Reference.out (Reference.acts m' c) (Reference.codes m' c) (Reference.scales m' c) (Reference.bias m' c)
    = Reference.out (Result.acts m c) (Result.codes m c) (Result.scales m c) (Result.bias m c)
  rw [show Reference.acts m' c = Result.acts m c from h0, show Reference.codes m' c = Result.codes m c from h1,
    show Reference.scales m' c = Result.scales m c from h2, show Reference.bias m' c = Result.bias m c from h3]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
